-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50x128 : Shape := ⟨3, ![4096, 50, 128]⟩
abbrev S204800x128 : Shape := ⟨2, ![204800, 128]⟩
abbrev S204800x32 : Shape := ⟨2, ![204800, 32]⟩
abbrev S2048x128 : Shape := ⟨2, ![2048, 128]⟩
abbrev S2048x32 : Shape := ⟨2, ![2048, 32]⟩
abbrev S4096x50x32 : Shape := ⟨3, ![4096, 50, 32]⟩

abbrev nBuf : Space → Nat
  | .hbm => 10
  | .vmem => 10
  | .smem => 0
  | _ => 0

abbrev bufTy : (tb : Table) → Fin (tcTables nBuf tb) → BufTy
  | .hbm, ⟨0, _⟩ => ⟨S4096x50x128, .f32⟩
  | .hbm, ⟨1, _⟩ => ⟨S204800x128, .f32⟩
  | .hbm, ⟨2, _⟩ => ⟨S204800x32, .f32⟩
  | .hbm, ⟨3, _⟩ => ⟨S204800x32, .f32⟩
  | .hbm, ⟨4, _⟩ => ⟨S204800x32, .f32⟩
  | .hbm, ⟨5, _⟩ => ⟨S204800x32, .f32⟩
  | .hbm, ⟨6, _⟩ => ⟨S4096x50x32, .f32⟩
  | .hbm, ⟨7, _⟩ => ⟨S4096x50x32, .f32⟩
  | .hbm, ⟨8, _⟩ => ⟨S4096x50x32, .f32⟩
  | .hbm, ⟨9, _⟩ => ⟨S4096x50x32, .f32⟩
  | .local _ .vmem, ⟨0, _⟩ => ⟨S2048x128, .f32⟩
  | .local _ .vmem, ⟨1, _⟩ => ⟨S2048x128, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | _, _ => ⟨S4096x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x50x128 : Shape := ⟨3, ![4096, 50, 128]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S4096x50x32 : Shape := ⟨3, ![4096, 50, 32]⟩

abbrev nBuf : Space → Nat
  | .hbm => 106
  | .vmem => 0
  | .smem => 0
  | _ => 0

abbrev bufTy : (tb : Table) → Fin (tcTables nBuf tb) → BufTy
  | .hbm, ⟨0, _⟩ => ⟨S4096x50x128, .f32⟩
  | .hbm, ⟨1, _⟩ => ⟨S32, .i32⟩
  | .hbm, ⟨2, _⟩ => ⟨S_, .i32⟩
  | .hbm, ⟨3, _⟩ => ⟨S32, .i32⟩
  | .hbm, ⟨4, _⟩ => ⟨S32, .i1⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S32x1, .i32⟩
  | .hbm, ⟨10, _⟩ => ⟨S1, .i32⟩
  | .hbm, ⟨11, _⟩ => ⟨S_, .i32⟩
  | .hbm, ⟨12, _⟩ => ⟨S32x1, .i32⟩
  | .hbm, ⟨13, _⟩ => ⟨S32x1, .i1⟩
  | .hbm, ⟨14, _⟩ => ⟨S1x1, .i32⟩
  | .hbm, ⟨15, _⟩ => ⟨S32x1, .i32⟩
  | .hbm, ⟨16, _⟩ => ⟨S32x1, .i1⟩
  | .hbm, ⟨17, _⟩ => ⟨S32x1, .i1⟩
  | .hbm, ⟨18, _⟩ => ⟨S_, .i1⟩
  | .hbm, ⟨19, _⟩ => ⟨S32, .i1⟩
  | .hbm, ⟨20, _⟩ => ⟨S4096x50x32, .f32⟩
  | .hbm, ⟨21, _⟩ => ⟨S4096x50x32, .i1⟩
  | .hbm, ⟨22, _⟩ => ⟨S_, .f32⟩
  | .hbm, ⟨23, _⟩ => ⟨S4096x50x32, .f32⟩
  | .hbm, ⟨24, _⟩ => ⟨S4096x50x32, .f32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S1, .i32⟩
  | .hbm, ⟨38, _⟩ => ⟨S_, .i32⟩
  | .hbm, ⟨39, _⟩ => ⟨S32x1, .i32⟩
  | .hbm, ⟨40, _⟩ => ⟨S32x1, .i1⟩
  | .hbm, ⟨41, _⟩ => ⟨S1x1, .i32⟩
  | .hbm, ⟨42, _⟩ => ⟨S32x1, .i32⟩
  | .hbm, ⟨43, _⟩ => ⟨S32x1, .i1⟩
  | .hbm, ⟨44, _⟩ => ⟨S32x1, .i1⟩
  | .hbm, ⟨45, _⟩ => ⟨S_, .i1⟩
  | .hbm, ⟨46, _⟩ => ⟨S32, .i1⟩
  | .hbm, ⟨47, _⟩ => ⟨S4096x50x32, .f32⟩
  | .hbm, ⟨48, _⟩ => ⟨S4096x50x32, .i1⟩
  | .hbm, ⟨49, _⟩ => ⟨S_, .f32⟩
  | .hbm, ⟨50, _⟩ => ⟨S4096x50x32, .f32⟩
  | .hbm, ⟨51, _⟩ => ⟨S4096x50x32, .f32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S32, .i32⟩
  | .hbm, ⟨58, _⟩ => ⟨S32, .i1⟩
  | .hbm, ⟨59, _⟩ => ⟨S_, .i32⟩
  | .hbm, ⟨60, _⟩ => ⟨S32, .i32⟩
  | .hbm, ⟨61, _⟩ => ⟨S32, .i32⟩
  | .hbm, ⟨62, _⟩ => ⟨S32, .i32⟩
  | .hbm, ⟨63, _⟩ => ⟨S32x1, .i32⟩
  | .hbm, ⟨64, _⟩ => ⟨S1, .i32⟩
  | .hbm, ⟨65, _⟩ => ⟨S_, .i32⟩
  | .hbm, ⟨66, _⟩ => ⟨S32x1, .i32⟩
  | .hbm, ⟨67, _⟩ => ⟨S32x1, .i1⟩
  | .hbm, ⟨68, _⟩ => ⟨S1x1, .i32⟩
  | .hbm, ⟨69, _⟩ => ⟨S32x1, .i32⟩
  | .hbm, ⟨70, _⟩ => ⟨S32x1, .i1⟩
  | .hbm, ⟨71, _⟩ => ⟨S32x1, .i1⟩
  | .hbm, ⟨72, _⟩ => ⟨S_, .i1⟩
  | .hbm, ⟨73, _⟩ => ⟨S32, .i1⟩
  | .hbm, ⟨74, _⟩ => ⟨S4096x50x32, .f32⟩
  | .hbm, ⟨75, _⟩ => ⟨S4096x50x32, .i1⟩
  | .hbm, ⟨76, _⟩ => ⟨S_, .f32⟩
  | .hbm, ⟨77, _⟩ => ⟨S4096x50x32, .f32⟩
  | .hbm, ⟨78, _⟩ => ⟨S4096x50x32, .f32⟩
  | .hbm, ⟨79, _⟩ => ⟨S32, .i32⟩
  | .hbm, ⟨80, _⟩ => ⟨S_, .i32⟩
  | .hbm, ⟨81, _⟩ => ⟨S32, .i32⟩
  | .hbm, ⟨82, _⟩ => ⟨S32, .i32⟩
  | .hbm, ⟨83, _⟩ => ⟨S_, .i32⟩
  | .hbm, ⟨84, _⟩ => ⟨S32, .i32⟩
  | .hbm, ⟨85, _⟩ => ⟨S32, .i1⟩
  | .hbm, ⟨86, _⟩ => ⟨S_, .i32⟩
  | .hbm, ⟨87, _⟩ => ⟨S32, .i32⟩
  | .hbm, ⟨88, _⟩ => ⟨S32, .i32⟩
  | .hbm, ⟨89, _⟩ => ⟨S32, .i32⟩
  | .hbm, ⟨90, _⟩ => ⟨S32x1, .i32⟩
  | .hbm, ⟨91, _⟩ => ⟨S1, .i32⟩
  | .hbm, ⟨92, _⟩ => ⟨S_, .i32⟩
  | .hbm, ⟨93, _⟩ => ⟨S32x1, .i32⟩
  | .hbm, ⟨94, _⟩ => ⟨S32x1, .i1⟩
  | .hbm, ⟨95, _⟩ => ⟨S1x1, .i32⟩
  | .hbm, ⟨96, _⟩ => ⟨S32x1, .i32⟩
  | .hbm, ⟨97, _⟩ => ⟨S32x1, .i1⟩
  | .hbm, ⟨98, _⟩ => ⟨S32x1, .i1⟩
  | .hbm, ⟨99, _⟩ => ⟨S_, .i1⟩
  | .hbm, ⟨100, _⟩ => ⟨S32, .i1⟩
  | .hbm, ⟨101, _⟩ => ⟨S4096x50x32, .f32⟩
  | .hbm, ⟨102, _⟩ => ⟨S4096x50x32, .i1⟩
  | .hbm, ⟨103, _⟩ => ⟨S_, .f32⟩
  | .hbm, ⟨104, _⟩ => ⟨S4096x50x32, .f32⟩
  | .hbm, ⟨105, _⟩ => ⟨S4096x50x32, .f32⟩
  | _, _ => ⟨S4096x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_c_0 : Ref sig .tc := ⟨.hbm, 53, rfl⟩
abbrev main_v7 : Ref sig .tc := ⟨.hbm, 54, rfl⟩
abbrev main_v8 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v9 : Ref sig .tc := ⟨.hbm, 78, rfl⟩
abbrev main_v10 : Ref sig .tc := ⟨.hbm, 79, rfl⟩
abbrev main_c_1 : Ref sig .tc := ⟨.hbm, 80, rfl⟩
abbrev main_v11 : Ref sig .tc := ⟨.hbm, 81, rfl⟩
abbrev main_v12 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v13 : Ref sig .tc := ⟨.hbm, 105, rfl⟩

abbrev nD : Nat := 1
abbrev τ : Topo := Topo.v7x

variable {F : FTy → Type} [FloatOps F]
-- ==== Proof.Columns.lean ====
/-
  THE MATHEMATICS OF THE SPLIT, apart from any program. `cols k x` is the array of the 32 columns `k, …, k + 31` of the last
  axis of `x : [4096, 50, 128]`: what each of the four results is, at `k = 0, 32, 64, 96`. `rowCols k y` is the same choice of
  columns in a matrix `y : [204800, 128]`, and the two are matched by the reshape that joins the two leading axes, which
  leaves the last axis alone (`shapeCast_rowCols`).
-/
module

public import Idealize.ShloMosaic.Lib.Pointwise
public import Idealize.ShloMosaic.Lib.Pipeline.ValueKit

@[expose] public section

noncomputable section

namespace Cert.Split

open Idealize.ShloMosaic

variable {α : Type}

/-- The array that is split: `[4096, 50, 128]`. -/
abbrev Full : Shape := ⟨3, ![4096, 50, 128]⟩
/-- One of its four parts: `[4096, 50, 32]`. -/
abbrev Part : Shape := ⟨3, ![4096, 50, 32]⟩
/-- The array with its two leading axes joined: `[204800, 128]`. -/
abbrev Flat : Shape := ⟨2, ![204800, 128]⟩
/-- A part with its two leading axes joined: `[204800, 32]`. -/
abbrev FlatPart : Shape := ⟨2, ![204800, 32]⟩

/-- Column `c` of a part that starts at column `k` is column `k + c` of the whole. -/
abbrev shift (k : Nat) (hk : k ≤ 96) (c : Fin 32) : Fin 128 := ⟨k + c.val, by omega⟩

/-- The 32 columns from `k` of the last axis of a three-axis array. -/
def cols (k : Nat) (hk : k ≤ 96) (x : Full.Idx → α) : Part.Idx → α := fun j => x (ix3 (j 0) (j 1) (shift k hk (j 2)))

/-- The 32 columns from `k` of a matrix. -/
def rowCols (k : Nat) (hk : k ≤ 96) (y : Flat.Idx → α) : FlatPart.Idx → α := fun i => y (ix2 (i 0) (shift k hk (i 1)))

/-- Joining the leading axes, taking 32 columns of the matrix and parting the axes again is taking those columns of the array:
    row `50 a + b` of the matrix is row `(a, b)` of the array. -/
theorem shapeCast_rowCols (k : Nat) (hk : k ≤ 96) (x : Full.Idx → α) (h : Full.ShapeCasts Flat) (h' : FlatPart.ShapeCasts Part) :
    shapeCast Part (rowCols k hk (shapeCast Flat x h)) h' = cols k hk x := by
  funext j
  pointwise [rowCols, cols]
  done

end Cert.Split

end
-- ==== Proof.Blocks.lean ====
/-
  THE KERNEL'S FOUR RESULTS. Each of the 100 points loads a block of 2048 rows of the matrix the array is reshaped to and stores
  its columns `0–31`, `32–63`, `64–95` and `96–127` as the same rows of the four result matrices (`arr1` … `arr4`, by `flushed`);
  the operations after the kernel part the rows of each matrix again, which makes it the array of those columns (`run`).
-/
module

public import proofs.«01_k».proof.Proof.Columns
public import proofs.«01_k».proof.Proof.Gen.KernelIdeal.Frame
public import Idealize.ShloMosaic.Lib.Pipeline.ValueKit

@[expose] public section

set_option maxRecDepth 16384

noncomputable section

namespace Cert.KernelIdeal.Blocks

open Cert.KernelIdeal Cert.KernelIdeal.Gen Cert.Split Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The matrix the kernel splits, on device `c`: its argument with the leading axes joined. -/
abbrev flat (c : Dev nD) : Flat.Idx → F .f32 :=
  shapeCast Flat (m ((c : Thread nD τ).loc main_arg0)) shapeCasts_S4096x50x128_S204800x128

/-- The kernel finds that matrix in its operand. -/
theorem V_operand (c : Dev nD) : V m c main_v0 = flat m c := by
  show StableHlo.after (List.flatten [hostOps0]) (fun b => m (c, b)) (Proc.devRef .tc main_v0) = _
  simp only [List.flatten_cons, List.flatten_nil, List.append_nil]
  after_results
  rfl

/-- Every window's block at point `t` is block `t` of the rows, from column 0. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := by
  decide +kernel

/-- What one point stores, read at an index: the loaded block in the same row, `k` columns further. -/
theorem slice_apply (k : Nat) (hk : k ≤ 96) (b : FVec F S2048x128 .f32) (h : S2048x128.Slices ![0, k] S2048x32) (y : S2048x32.Idx) :
    extractStridedSlice S2048x32 ![0, k] (k0_pay1 b) h y = b (ix2 (y 0) (shift k hk (y 1))) := by
  pointwise [k0_pay1]

/-- The loaded block at point `t`, read at an index: the matrix at row `2048 t + y 0`, which the index `e` of a result matrix
    names. -/
theorem block_apply (k : Nat) (hk : k ≤ 96) (c : Dev nD) (t : Fin cfg0.N) (y : S2048x32.Idx) (e : FlatPart.Idx)
    (h0 : (e 0).val = t.val * 2048 + (y 0).val) (h1 : (e 1).val = (y 1).val) :
    iblk m c 0 t (ix2 (y 0) (shift k hk (y 1))) = rowCols k hk (flat m c) e := by
  rw [← V_operand]
  unfold iblk rowCols
  show V m c main_v0 _ = V m c main_v0 _
  congr 1
  blk_ext [idx t]

/-- The first result matrix ends at the operand's columns from 0. -/
theorem arr1 (c : Dev nD) : (dats m 0 c).arrAt 1 cfg0.N = rowCols 0 (by decide) (flat m c) := by
  refine (dats m 0 c).arrAt_eq_of_covers 1 _ (by decide +kernel) fun t hf y => ?_
  blk_simp
  rw [after0_1]
  frame_out
  exact (slice_apply 0 _ _ slices_S2048x128_o0_0_S2048x32 y).trans
    (block_apply m 0 _ c t y _ (by blk_simp [idx t]) (by blk_simp [idx t]))

/-- The second result matrix ends at the operand's columns from 32. -/
theorem arr2 (c : Dev nD) : (dats m 0 c).arrAt 2 cfg0.N = rowCols 32 (by decide) (flat m c) := by
  refine (dats m 0 c).arrAt_eq_of_covers 2 _ (by decide +kernel) fun t hf y => ?_
  blk_simp
  rw [after0_2]
  frame_out
  exact (slice_apply 32 _ _ slices_S2048x128_o0_32_S2048x32 y).trans
    (block_apply m 32 _ c t y _ (by blk_simp [idx t]) (by blk_simp [idx t]))

/-- The third result matrix ends at the operand's columns from 64. -/
theorem arr3 (c : Dev nD) : (dats m 0 c).arrAt 3 cfg0.N = rowCols 64 (by decide) (flat m c) := by
  refine (dats m 0 c).arrAt_eq_of_covers 3 _ (by decide +kernel) fun t hf y => ?_
  blk_simp
  rw [after0_3]
  frame_out
  exact (slice_apply 64 _ _ slices_S2048x128_o0_64_S2048x32 y).trans
    (block_apply m 64 _ c t y _ (by blk_simp [idx t]) (by blk_simp [idx t]))

/-- The fourth result matrix ends at the operand's columns from 96. -/
theorem arr4 (c : Dev nD) : (dats m 0 c).arrAt 4 cfg0.N = rowCols 96 (by decide) (flat m c) := by
  refine (dats m 0 c).arrAt_eq_of_covers 4 _ (by decide +kernel) fun t hf y => ?_
  blk_simp
  rw [after0_4]
  frame_out
  exact (slice_apply 96 _ _ slices_S2048x128_o0_96_S2048x32 y).trans
    (block_apply m 96 _ c t y _ (by blk_simp [idx t]) (by blk_simp [idx t]))

/-- The device's buffers as the kernel leaves them: the windows' arrays at their final contents, the others as found. -/
abbrev left (c : Dev nD) : Valuation τ sig (Elt F) :=
  Pipeline.withArrays spec0 c (V0 m c) fun w => (dats m 0 c).arrAt w cfg0.N

/-- A result matrix that holds 32 columns of the operand, its rows parted, is those columns of the argument. -/
theorem parted (k : Nat) (hk : k ≤ 96) (c : Dev nD) (A : FlatPart.Idx → F .f32) (hA : A = rowCols k hk (flat m c)) :
    shapeCast Part A shapeCasts_S204800x32_S4096x50x32 = cols k hk (m ((c : Thread nD τ).loc main_arg0)) :=
  (congrArg (fun B => shapeCast Part B shapeCasts_S204800x32_S4096x50x32) hA).trans (shapeCast_rowCols k hk _ _ _)

/-- The first result ends at the argument's columns from 0. -/
theorem res1 (c : Dev nD) : Pipeline.afterTail₀ cfgs (dats m) 0 (V0 m) [hostOps1] c main_v2
    = cols 0 (by decide) (m ((c : Thread nD τ).loc main_arg0)) := by
  show StableHlo.after hostOps1 (left m c) (Proc.devRef .tc main_v2) = _
  after_results
  exact parted m 0 _ c _ ((Pipeline.withArrays_arr spec0 launch0.win.arr_inj c (V0 m c) _ 1).trans (arr1 m c))

/-- The second result ends at the argument's columns from 32. -/
theorem res2 (c : Dev nD) : Pipeline.afterTail₀ cfgs (dats m) 0 (V0 m) [hostOps1] c main_v3
    = cols 32 (by decide) (m ((c : Thread nD τ).loc main_arg0)) := by
  show StableHlo.after hostOps1 (left m c) (Proc.devRef .tc main_v3) = _
  after_results
  exact parted m 32 _ c _ ((Pipeline.withArrays_arr spec0 launch0.win.arr_inj c (V0 m c) _ 2).trans (arr2 m c))

/-- The third result ends at the argument's columns from 64. -/
theorem res3 (c : Dev nD) : Pipeline.afterTail₀ cfgs (dats m) 0 (V0 m) [hostOps1] c main_v4
    = cols 64 (by decide) (m ((c : Thread nD τ).loc main_arg0)) := by
  show StableHlo.after hostOps1 (left m c) (Proc.devRef .tc main_v4) = _
  after_results
  exact parted m 64 _ c _ ((Pipeline.withArrays_arr spec0 launch0.win.arr_inj c (V0 m c) _ 3).trans (arr3 m c))

/-- The fourth result ends at the argument's columns from 96. -/
theorem res4 (c : Dev nD) : Pipeline.afterTail₀ cfgs (dats m) 0 (V0 m) [hostOps1] c main_v5
    = cols 96 (by decide) (m ((c : Thread nD τ).loc main_arg0)) := by
  show StableHlo.after hostOps1 (left m c) (Proc.devRef .tc main_v5) = _
  after_results
  exact parted m 96 _ c _ ((Pipeline.withArrays_arr spec0 launch0.win.arr_inj c (V0 m c) _ 4).trans (arr4 m c))

/-- The kernel's run: each of the four results ends holding its 32 columns of the argument, which ends unchanged. -/
theorem run : θ_run defs (onTc (τ := τ) (main (F := F))) ⟨m, fun _ => 0, ρ⟩ fun r => ∀ c : Dev nD,
      r.2.mem ((c.tc : Thread nD τ).loc main_v2) = cols 0 (by decide) (m ((c.tc : Thread nD τ).loc main_arg0))
      ∧ r.2.mem ((c.tc : Thread nD τ).loc main_v3) = cols 32 (by decide) (m ((c.tc : Thread nD τ).loc main_arg0))
      ∧ r.2.mem ((c.tc : Thread nD τ).loc main_v4) = cols 64 (by decide) (m ((c.tc : Thread nD τ).loc main_arg0))
      ∧ r.2.mem ((c.tc : Thread nD τ).loc main_v5) = cols 96 (by decide) (m ((c.tc : Thread nD τ).loc main_arg0))
      ∧ r.2.mem ((c.tc : Thread nD τ).loc main_arg0) = m ((c.tc : Thread nD τ).loc main_arg0) :=
  (θ_run defs _ _).mono (fun r h c =>
    have rest : ∀ b : Ref sig .tc, b ∈ Pipeline.restRefs sig spec0 → r.2.mem ((c.tc : Thread nD τ).loc b)
        = Pipeline.afterTail₀ cfgs (dats m) 0 (V0 m) [hostOps1] c b := (h c).2
    ⟨(rest main_v2 (Pipeline.mem_restRefs_of _ (by decide) (by decide))).trans (res1 m c),
      (rest main_v3 (Pipeline.mem_restRefs_of _ (by decide) (by decide))).trans (res2 m c),
      (rest main_v4 (Pipeline.mem_restRefs_of _ (by decide) (by decide))).trans (res3 m c),
      (rest main_v5 (Pipeline.mem_restRefs_of _ (by decide) (by decide))).trans (res4 m c),
      (rest main_arg0 (Pipeline.mem_restRefs_of _ (by decide) (by decide))).trans (W_main_arg0 m (dats m) c)⟩)
    (run_main m ρ)

end Cert.KernelIdeal.Blocks

end
-- ==== Proof.Take.lean ====
/-
  ONE INDEX SELECTION ALONG THE LAST AXIS, as the reference's `jnp.take` of 32 columns states it: the indices, wrapped once where
  negative, are the start indices of a gather of one column each; a result column whose index is out of bounds is filled with
  NaN. Where the indices are the consecutive numbers `k, …, k + 31` with `k ≤ 96`, none is negative and none out of bounds, and the
  selection is the array of those columns (`take_eq_cols`).
-/
module

public import proofs.«01_k».proof.Proof.Columns
public import proofs.«01_k».proof.Proof.Gen.ReferenceIdeal.Run
public import Idealize.ShloMosaic.Lib.ValueIdxCore

@[expose] public section

noncomputable section

namespace Cert.ReferenceIdeal.Take

open Cert.ReferenceIdeal Cert.ReferenceIdeal.Gen Cert.Split Idealize.ShloMosaic
open Idealize.ShloMosaic.TcCoe Idealize.SL.Sem

variable {F : FTy → Type} [FloatOps F]

/-- The start indices the selection gathers at: an index below zero is counted from the end. -/
def starts (idx : IVec S32 32) : IVec S32x1 32 :=
  broadcastInDim S32x1 ![0] bcast_S32_S32x1_0
    (select (cmpi .slt idx (broadcastInDim S32 ![] bcast_S_S32 (constantI S_ 32 0#32)))
      (addi idx (broadcastInDim S32 ![] bcast_S_S32 (constantI S_ 32 128#32))) idx)

/-- Which start indices are in bounds: at least `0` and at most `127`. -/
def inBounds (st : IVec S32x1 32) : IVec S32x1 1 :=
  andi (cmpi .sge st (broadcastInDim S32x1 ![] bcast_S_S32x1 (constantI S_ 32 0#32)))
    (cmpi .sle st (broadcastInDim S32x1 ![0, 1] bcast_S1x1_S32x1_0_1
      (broadcastInDim S1x1 ![1] bcast_S1_S1x1_1 (constantI S1 32 127#32))))

/-- The selection: the gathered columns where the index is in bounds, NaN elsewhere. -/
def take (x : FVec F S4096x50x128 .f32) (idx : IVec S32 32) : FVec F S4096x50x32 .f32 :=
  select (broadcastInDim S4096x50x32 ![2] bcast_S32_S4096x50x32_2
      (Host.reduce IntOp.andi (inBounds (starts idx)) (constantI S_ 1 1#1) reducesTo_S32x1_S32_d1 h_S_))
    (Host.gather gather_S4096x50x128_S32x1_S4096x50x32_01_2_n_n_2_1_4096501 x (starts idx))
    (broadcastInDim S4096x50x32 ![] bcast_S_S4096x50x32 (constant S_ .f32 0x7FC00000#32))

/-- The indices are the consecutive numbers from `k`. -/
def Consecutive (k : Nat) (idx : IVec S32 32) : Prop := ∀ p : S32.Idx, idx p = BitVec.ofNat 32 (k + (p 0).val)

/-- The counting indices are the consecutive numbers from zero. -/
theorem consecutive_iota : Consecutive 0 (iotaInDim S32 32 0) := fun p => by
  pointwise

/-- The counting indices with `k` added to each are the consecutive numbers from `k`. -/
theorem consecutive_add (k : Nat) : Consecutive k
    (addi (broadcastInDim S32 ![] bcast_S_S32 (constantI S_ 32 (BitVec.ofNat 32 k))) (iotaInDim S32 32 0)) := fun p => by
  pointwise
  exact (BitVec.ofNat_add k _).symm

/-- A column number below 128, as a 32-bit word, is not negative, is at least zero and at most 127, and reads as itself. -/
theorem column_word (n : Fin 128) : IntOp.cmpi .slt (BitVec.ofNat 32 n.val) 0#32 = 0#1
    ∧ IntOp.andi (IntOp.cmpi .sge (BitVec.ofNat 32 n.val) 0#32) (IntOp.cmpi .sle (BitVec.ofNat 32 n.val) 127#32) = 1#1
    ∧ min (BitVec.ofNat 32 n.val).toInt.toNat 127 = n.val := by
  revert n; decide +kernel

/-- No consecutive index from `k` is negative: the start index of column `c` is `k + c`. -/
theorem starts_apply (k : Nat) (hk : k ≤ 96) (idx : IVec S32 32) (h : Consecutive k idx) (q : S32x1.Idx) :
    starts idx q = BitVec.ofNat 32 (shift k hk (q 0)).val := by
  pointwise [starts]
  rw [h]
  exact (congrArg (fun b => Scalar.select b _ _) (column_word (shift k hk (q 0))).1).trans (ValueIdx.select_zero _ _)

/-- Every consecutive index from `k` is in bounds. -/
theorem inBounds_apply (k : Nat) (hk : k ≤ 96) (idx : IVec S32 32) (h : Consecutive k idx) (q : S32x1.Idx) :
    inBounds (starts idx) q = 1#1 := by
  pointwise [inBounds]
  rw [starts_apply k hk idx h]
  exact (column_word (shift k hk (q 0))).2.1

/-- A conjunction of bits over an axis on which every bit is set, from a set bit, is a set bit. -/
theorem reduce_all_set (b : IVec S32x1 1) (hb : ∀ q, b q = 1#1) (p : S32.Idx) :
    Host.reduce IntOp.andi b (constantI S_ 1 1#1) reducesTo_S32x1_S32_d1 h_S_ p = 1#1 := by
  unfold Host.reduce
  generalize (List.filter _ _) = l
  induction l with
  | nil => rfl
  | cons n l ih => rw [List.foldl_cons, hb]; exact ih

/-- The gather's dimension numbers: the last axis is read at the start index, the other two are kept whole. -/
abbrev dims : GatherDims S4096x50x128 S32x1 S4096x50x32 := gather_S4096x50x128_S32x1_S4096x50x32_01_2_n_n_2_1_4096501

/-- On the two leading axes the gather reads the result's own coordinate. -/
theorem operandIdx_lead (st : IVec S32x1 32) (j : S4096x50x32.Idx) :
    (dims.operandIdx j st 0).val = (j 0).val ∧ (dims.operandIdx j st 1).val = (j 1).val :=
  ⟨Nat.zero_add _, Nat.zero_add _⟩

/-- On the last axis it reads the start index of the result's column, signed and clamped to the last column. -/
theorem operandIdx_last (st : IVec S32x1 32) (j : S4096x50x32.Idx) :
    (dims.operandIdx j st 2).val = min (st (ix2 (j 2) 0)).toInt.toNat 127 := by
  have hsi : dims.siIdx j ⟨0, by decide⟩ = ix2 (j 2) 0 := by
    funext b
    match b with
    | ⟨0, _⟩ => rfl
    | ⟨1, _⟩ => rfl
  exact congrArg (fun q => min (st q).toInt.toNat 127) hsi

/-- The gather read at an index: one column of the operand per result column, the column's number read off the start indices,
    signed, and clamped to the last. -/
theorem gather_apply (x : FVec F S4096x50x128 .f32) (st : IVec S32x1 32) (j : S4096x50x32.Idx) :
    Host.gather dims x st j = x (ix3 (j 0) (j 1) ⟨min (st (ix2 (j 2) 0)).toInt.toNat 127, by omega⟩) := by
  unfold Host.gather
  congr 1
  funext a
  apply Fin.ext
  match a with
  | ⟨0, _⟩ => exact (operandIdx_lead st j).1
  | ⟨1, _⟩ => exact (operandIdx_lead st j).2
  | ⟨2, _⟩ => exact operandIdx_last st j

/-- The selection of the consecutive indices from `k` is the array of the 32 columns from `k`. -/
theorem take_eq_cols (k : Nat) (hk : k ≤ 96) (x : FVec F S4096x50x128 .f32) (idx : IVec S32 32) (h : Consecutive k idx) :
    take x idx = cols k hk x := by
  funext j
  refine (congrArg (fun b => Scalar.select b _ _) (reduce_all_set _ (inBounds_apply k hk idx h) _)).trans ?_
  rw [ValueIdx.select_one, gather_apply, cols]
  congr 2
  apply Fin.ext
  show min (starts idx _).toInt.toNat 127 = _
  rw [starts_apply k hk idx h]
  exact (column_word (shift k hk (j 2))).2.2

/-- The reference's run: each of the four results ends holding its 32 columns of the argument, which ends unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = cols 0 (by decide) (m ((c.tc : Thread nD τ).loc main_arg0))
      ∧ r.2.mem ((c.tc : Thread nD τ).loc main_v5) = cols 32 (by decide) (m ((c.tc : Thread nD τ).loc main_arg0))
      ∧ r.2.mem ((c.tc : Thread nD τ).loc main_v9) = cols 64 (by decide) (m ((c.tc : Thread nD τ).loc main_arg0))
      ∧ r.2.mem ((c.tc : Thread nD τ).loc main_v13) = cols 96 (by decide) (m ((c.tc : Thread nD τ).loc main_arg0))
      ∧ r.2.mem ((c.tc : Thread nD τ).loc main_arg0) = m ((c.tc : Thread nD τ).loc main_arg0) :=
  (θ_run defs _ _).mono (fun _ h c => ⟨(h c).1.trans (take_eq_cols 0 _ _ _ consecutive_iota),
      (h c).2.1.trans (take_eq_cols 32 _ _ _ (consecutive_add 32)),
      (h c).2.2.1.trans (take_eq_cols 64 _ _ _ (consecutive_add 64)),
      (h c).2.2.2.1.trans (take_eq_cols 96 _ _ _ (consecutive_add 96)), (h c).2.2.2.2⟩) (Value.run m ρ)

end Cert.ReferenceIdeal.Take

end
-- ==== Proof.lean ====
/- The claims, assembled: the kernel as compiled and as read over the extended reals keeps its argument and ends quiescent, so does
   the reference, and the kernel's four results are the reference's four, element by element. The last is `Blocks.run` beside
   `Take.run`: both ends of each result are the same 32 columns of the argument (`Cert.Split.cols`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Blocks
public import proofs.«01_k».proof.Proof.Take
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference keeps its argument and ends with every semaphore counter at zero: it has none. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Take.run (F := Ideal) m ρ)

/-- Kernel and reference, from memories that agree on the argument, end with equal results: result by result the 32 columns of the
    kernel's argument from 0, 32, 64 and 96. -/
theorem equal_results : Cert.algebraic_KernelIdeal_ReferenceIdeal (hKernelIdeal := Cert.KernelIdeal.Gen.facts)
    (hReferenceIdeal := Cert.ReferenceIdeal.Gen.facts) := fun m ρ m' ρ' _ hagree =>
  ⟨_, _, _, _, Cert.KernelIdeal.Blocks.run (F := Ideal) m ρ,
    (θ_run Cert.ReferenceIdeal.defs _ _).mono (fun r h c =>
      have e : ∀ (k : Nat) (hk : k ≤ 96), Split.cols k hk _ = Split.cols k hk _ := fun k hk => congrArg (Split.cols k hk) (hagree c)
      ⟨(h c).1.trans (e 0 _), (h c).2.1.trans (e 32 _), (h c).2.2.1.trans (e 64 _), (h c).2.2.2.1.trans (e 96 _), (h c).2.2.2.2⟩)
      (Cert.ReferenceIdeal.Take.run (F := Ideal) m' ρ')⟩

/-- Everything that is claimed: the three frames, that nothing was rewritten, and that the results are equal. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof

end
